-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1000000x64 : Shape := ⟨2, ![1000000, 64]⟩
abbrev S8x6250x64 : Shape := ⟨3, ![8, 6250, 64]⟩
abbrev S8 : Shape := ⟨1, ![8]⟩
abbrev S1 : Shape := ⟨1, ![1]⟩
abbrev S_ : Shape := ⟨0, ![]⟩
abbrev S6250x64 : Shape := ⟨2, ![6250, 64]⟩
abbrev S1x6250x64 : Shape := ⟨3, ![1, 6250, 64]⟩

abbrev nBuf : Space → Nat
  | .hbm => 2
  | .vmem => 1
  | .smem => 0
  | _ => 0

abbrev bufTy : (tb : Table) → Fin (tcTables nBuf tb) → BufTy
  | .hbm, ⟨0, _⟩ => ⟨S1000000x64, .f32⟩
  | .hbm, ⟨1, _⟩ => ⟨S1000000x64, .f32⟩
  | .local _ .vmem, ⟨0, _⟩ => ⟨S8x6250x64, .f32⟩
  | _, _ => ⟨S1000000x64, .f32⟩

abbrev bufScoped : (cs : CoreSpace) → Fin (nBuf (.core cs)) → Bool
  | .vmem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_scratch0 : Ref sig .tc := ⟨.vmem, 0, rfl⟩

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c160_i32 : BitVec 32 := 160#32
  let v0 : BitVec 32 := Scalar.addi c0_i32 c160_i32
  let c1_i32 : BitVec 32 := 1#32
  ⟨c0_i32, v0, c1_i32⟩
def k0_cond1 (k0_t1 : Fin k0_t1_loop.trips) : BitVec 1 :=
  let c0_i32 : BitVec 32 := 0#32
  let c1_i32 : BitVec 32 := 1#32
  let arg5 : BitVec 32 := Scf.iv c0_i32 c1_i32 k0_t1
  let c8_i32_83 : BitVec 32 := 8#32
  let v82 : BitVec 1 := Scalar.cmpi .sge arg5 c8_i32_83
  let v83 : BitVec 32 := Scalar.extui v82
  let c0_i32_84 : BitVec 32 := 0#32
  let v84 : BitVec 1 := Scalar.cmpi .ne v83 c0_i32_84
  v84

def k0_off1 (k0_t1 : Fin k0_t1_loop.trips) : Fin 1 → Nat :=
  let c0_i32 : BitVec 32 := 0#32
  let c1_i32 : BitVec 32 := 1#32
  let arg5 : BitVec 32 := Scf.iv c0_i32 c1_i32 k0_t1
  let c8_i32 : BitVec 32 := 8#32
  let v81 : BitVec 32 := Scalar.remsi arg5 c8_i32
  ![v81.toNat]
def k0_off2 (k0_t1 : Fin k0_t1_loop.trips) : Fin 2 → Nat :=
  let c0_i32 : BitVec 32 := 0#32
  let c1_i32 : BitVec 32 := 1#32
  let arg5 : BitVec 32 := Scf.iv c0_i32 c1_i32 k0_t1
  let c8_i32_90 : BitVec 32 := 8#32
  let v94 : BitVec 32 := Scalar.subi arg5 c8_i32_90
  let c6250_i32_91 : BitVec 32 := 6250#32
  let v95 : BitVec 32 := Scalar.muli v94 c6250_i32_91
  let c0_i32_92 : BitVec 32 := 0#32
  ![v95.toNat, 0]
def k0_off3 (k0_t1 : Fin k0_t1_loop.trips) : Fin 3 → Nat :=
  let c0_i32 : BitVec 32 := 0#32
  let c1_i32 : BitVec 32 := 1#32
  let arg5 : BitVec 32 := Scf.iv c0_i32 c1_i32 k0_t1
  let c8_i32 : BitVec 32 := 8#32
  let v81 : BitVec 32 := Scalar.remsi arg5 c8_i32
  let c0_i32_93 : BitVec 32 := 0#32
  let c0_i32_94 : BitVec 32 := 0#32
  ![v81.toNat, 0, 0]
def k0_off4 (k0_t1 : Fin k0_t1_loop.trips) : Fin 1 → Nat :=
  let c0_i32 : BitVec 32 := 0#32
  let c1_i32 : BitVec 32 := 1#32
  let arg5 : BitVec 32 := Scf.iv c0_i32 c1_i32 k0_t1
  let c8_i32 : BitVec 32 := 8#32
  let v81 : BitVec 32 := Scalar.remsi arg5 c8_i32
  ![v81.toNat]
def k0_off5 (k0_t1 : Fin k0_t1_loop.trips) : Fin 3 → Nat :=
  let c0_i32 : BitVec 32 := 0#32
  let c1_i32 : BitVec 32 := 1#32
  let arg5 : BitVec 32 := Scf.iv c0_i32 c1_i32 k0_t1
  let c8_i32 : BitVec 32 := 8#32
  let v81 : BitVec 32 := Scalar.remsi arg5 c8_i32
  let c0_i32_85 : BitVec 32 := 0#32
  let c0_i32_86 : BitVec 32 := 0#32
  ![v81.toNat, 0, 0]
def k0_off6 (k0_t1 : Fin k0_t1_loop.trips) : Fin 2 → Nat :=
  let c0_i32 : BitVec 32 := 0#32
  let c1_i32 : BitVec 32 := 1#32
  let arg5 : BitVec 32 := Scf.iv c0_i32 c1_i32 k0_t1
  let c6250_i32 : BitVec 32 := 6250#32
  let v85 : BitVec 32 := Scalar.muli arg5 c6250_i32
  let c0_i32_87 : BitVec 32 := 0#32
  ![v85.toNat, 0]
def k0_cond2 (k0_t1 : Fin k0_t1_loop.trips) : BitVec 1 :=
  let c0_i32 : BitVec 32 := 0#32
  let c1_i32 : BitVec 32 := 1#32
  let arg5 : BitVec 32 := Scf.iv c0_i32 c1_i32 k0_t1
  let c4_i32_88 : BitVec 32 := 4#32
  let v91 : BitVec 1 := Scalar.cmpi .sge arg5 c4_i32_88
  let v92 : BitVec 32 := Scalar.extui v91
  let c0_i32_89 : BitVec 32 := 0#32
  let v93 : BitVec 1 := Scalar.cmpi .ne v92 c0_i32_89
  v93

def k0_off7 (k0_t1 : Fin k0_t1_loop.trips) : Fin 1 → Nat :=
  let c0_i32 : BitVec 32 := 0#32
  let c1_i32 : BitVec 32 := 1#32
  let arg5 : BitVec 32 := Scf.iv c0_i32 c1_i32 k0_t1
  let c4_i32_90 : BitVec 32 := 4#32
  let v94 : BitVec 32 := Scalar.subi arg5 c4_i32_90
  let c8_i32_91 : BitVec 32 := 8#32
  let v95 : BitVec 32 := Scalar.remsi v94 c8_i32_91
  ![v95.toNat]
def k0_off8 (k0_t1 : Fin k0_t1_loop.trips) : Fin 3 → Nat :=
  let c0_i32 : BitVec 32 := 0#32
  let c1_i32 : BitVec 32 := 1#32
  let arg5 : BitVec 32 := Scf.iv c0_i32 c1_i32 k0_t1
  let c4_i32_90 : BitVec 32 := 4#32
  let v94 : BitVec 32 := Scalar.subi arg5 c4_i32_90
  let c8_i32_91 : BitVec 32 := 8#32
  let v95 : BitVec 32 := Scalar.remsi v94 c8_i32_91
  let c0_i32_94 : BitVec 32 := 0#32
  let c0_i32_95 : BitVec 32 := 0#32
  ![v95.toNat, 0, 0]
def k0_off9 (k0_t1 : Fin k0_t1_loop.trips) : Fin 2 → Nat :=
  let c0_i32 : BitVec 32 := 0#32
  let c1_i32 : BitVec 32 := 1#32
  let arg5 : BitVec 32 := Scf.iv c0_i32 c1_i32 k0_t1
  let c4_i32_92 : BitVec 32 := 4#32
  let v96 : BitVec 32 := Scalar.subi arg5 c4_i32_92
  let c6250_i32_93 : BitVec 32 := 6250#32
  let v97 : BitVec 32 := Scalar.muli v96 c6250_i32_93
  let c0_i32_96 : BitVec 32 := 0#32
  ![v97.toNat, 0]
-- ==== ReferenceIdeal.lean ====
abbrev S1000000x64 : Shape := ⟨2, ![1000000, 64]⟩

abbrev nBuf : Space → Nat
  | .hbm => 1
  | .vmem => 0
  | .smem => 0
  | _ => 0

abbrev bufTy : (tb : Table) → Fin (tcTables nBuf tb) → BufTy
  | .hbm, ⟨0, _⟩ => ⟨S1000000x64, .f32⟩
  | _, _ => ⟨S1000000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Relay.Chunks.lean ====
/-
  THE CHUNKS, THE SLOTS AND THE CELLS of the relay kernel, by name.

  The kernel cuts the table's million rows into 160 chunks of 6250 rows and passes each through one of eight VMEM
  slots: chunk `b` comes in on the inbound cell of slot `b % 8` and goes out on that slot's outbound cell. This module
  names the chunk of the table (`src b`), the chunk of the result (`dst b`), the slot (`slot s`) and the two cells
  (`inCell s`, `outCell s`), says what the loop's printed offsets are in terms of the trip, and tells the symbolic run
  to write the printed slices with these names.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.Routed
public import Idealize.ShloMosaic.Lib.Ring
public import Idealize.ShloMosaic.Lib.Tactic

@[expose] public section

noncomputable section

namespace Cert.Proof.Relay

open Cert.KernelIdeal Cert.KernelIdeal.Gen
open Idealize.ShloMosaic
open Idealize.ShloMosaic.TcCoe Idealize.ShloMosaic.Tactic

/-! ## The names -/

/-- The argument, in HBM. -/
abbrev tableM : Memref sig .tc .hbm S1000000x64 .f32 := Memref.whole main_arg0
/-- The result, in HBM. -/
abbrev resultM : Memref sig .tc .hbm S1000000x64 .f32 := Memref.whole main_v0
/-- The VMEM buffer of eight slots. -/
abbrev ringM : Memref sig .tc .vmem S8x6250x64 .f32 := Memref.whole cc0_scratch0

/-- Where chunk `b` begins, -/
abbrev rowOff (b : Fin 160) : Fin 2 → Nat := ![6250 * b.val, 0]
/-- where slot `s` begins, -/
abbrev slotOff (s : Fin 8) : Fin 3 → Nat := ![s.val, 0, 0]
/-- where cell `s` is. -/
abbrev cellOff (s : Fin 8) : Fin 1 → Nat := ![s.val]

/-- Chunk `b` lies inside the array of a million rows. -/
theorem rowOff_inb (b : Fin 160) : ∀ a, rowOff b a + S6250x64.size a ≤ S1000000x64.size a := by
  have := b.isLt
  intro a; fin_cases a
  · show 6250 * b.val + 6250 ≤ 1000000; omega
  · show 0 + 64 ≤ 64; omega
/-- Slot `s` lies inside the buffer of eight slots. -/
theorem slotOff_inb (s : Fin 8) : ∀ a, slotOff s a + S1x6250x64.size a ≤ S8x6250x64.size a := by
  have := s.isLt
  intro a; fin_cases a
  · show s.val + 1 ≤ 8; omega
  · show 0 + 6250 ≤ 6250; omega
  · show 0 + 64 ≤ 64; omega
/-- Cell `s` lies inside the array of eight semaphores. -/
theorem cellOff_inb (s : Fin 8) : ∀ a, cellOff s a + S1.size a ≤ S8.size a := by
  have := s.isLt
  intro a; fin_cases a; show s.val + 1 ≤ 8; omega

/-- Chunk `b`'s rectangle of rows, -/
abbrev rowRect (b : Fin 160) : Rect S1000000x64 := Rect.unit (s := S1000000x64) (rowOff b) S6250x64.size (rowOff_inb b)
/-- slot `s`'s of the buffer. -/
abbrev slotRect (s : Fin 8) : Rect S8x6250x64 := Rect.unit (s := S8x6250x64) (slotOff s) S1x6250x64.size (slotOff_inb s)

/-- Chunk `b` of the table. -/
def src (b : Fin 160) : Memref sig .tc .hbm S6250x64 .f32 := tableM.slice (rowRect b) (fun _ => rfl)
/-- Chunk `b` of the result. -/
def dst (b : Fin 160) : Memref sig .tc .hbm S6250x64 .f32 := resultM.slice (rowRect b) (fun _ => rfl)
/-- Slot `s` of the VMEM buffer, its leading axis of one dropped. -/
def slot (s : Fin 8) : Memref sig .tc .vmem S6250x64 .f32 :=
  (ringM.slice (slotRect s) (fun _ => rfl)).squeeze S6250x64 squeezes_S1x6250x64_S6250x64
/-- The DMA semaphore a chunk coming into slot `s` signals. -/
def inCell (s : Fin 8) : DmaSems sig S_ :=
  (cc0_scratch1.slice (Rect.unit (s := S8) (cellOff s) S1.size (cellOff_inb s))).squeeze S_ squeezes_S1_S_
/-- The DMA semaphore a chunk going out of slot `s` signals. -/
def outCell (s : Fin 8) : DmaSems sig S_ :=
  (cc0_scratch2.slice (Rect.unit (s := S8) (cellOff s) S1.size (cellOff_inb s))).squeeze S_ squeezes_S1_S_

/-! ## The loop's offsets, by the trip -/

/-- The loop makes 160 trips. -/
theorem trips_eq : k0_t1_loop.trips = 160 := by decide +kernel

/-- The loop waits for an outgoing chunk exactly from trip 8 on. -/
theorem cond1_iff : ∀ k : Fin k0_t1_loop.trips, k0_cond1 k = 1#1 ↔ 8 ≤ k.val := by decide +kernel
/-- The loop turns a chunk around exactly from trip 4 on. -/
theorem cond2_iff : ∀ k : Fin k0_t1_loop.trips, k0_cond2 k = 1#1 ↔ 4 ≤ k.val := by decide +kernel

/-- From trip 8 on the chunk waited for is the one eight before; -/
theorem off2_eq : ∀ k : Fin k0_t1_loop.trips, 8 ≤ k.val → k0_off2 k = ![6250 * (k.val - 8), 0] := by decide +kernel
/-- from trip 4 on the cells of the chunk turned around are those of the chunk four before, -/
theorem off7_eq : ∀ k : Fin k0_t1_loop.trips, 4 ≤ k.val → k0_off7 k = ![(k.val - 4) % 8] := by decide +kernel
/-- its slot is that chunk's slot, -/
theorem off8_eq : ∀ k : Fin k0_t1_loop.trips, 4 ≤ k.val → k0_off8 k = ![(k.val - 4) % 8, 0, 0] := by decide +kernel
/-- and its rows are that chunk's rows. -/
theorem off9_eq : ∀ k : Fin k0_t1_loop.trips, 4 ≤ k.val → k0_off9 k = ![6250 * (k.val - 4), 0] := by decide +kernel

/-- A trip counts one of the 160 chunks. -/
theorem trip_lt (k : Fin k0_t1_loop.trips) : k.val < 160 := Nat.lt_of_lt_of_eq k.isLt trips_eq

/-! ## The printed slices are the named ones -/

/-- A slice of the table at chunk `b`'s offsets is chunk `b`. -/
theorem src_congr {off : Fin 2 → Nat} {b : Fin 160} (e : off = rowOff b) (hh hs) :
    tableM.slice (Rect.unit (s := S1000000x64) off S6250x64.size hh) hs = src b := Memref.slice_unit_congr _ e _ _ _ fun _ => rfl
/-- A slice of the result at chunk `b`'s offsets is chunk `b`. -/
theorem dst_congr {off : Fin 2 → Nat} {b : Fin 160} (e : off = rowOff b) (hh hs) :
    resultM.slice (Rect.unit (s := S1000000x64) off S6250x64.size hh) hs = dst b := Memref.slice_unit_congr _ e _ _ _ fun _ => rfl
/-- A slice of the ring at slot `s`'s offsets, squeezed, is slot `s`. -/
theorem slot_congr {off : Fin 3 → Nat} {s : Fin 8} (e : off = slotOff s) (hh hs) :
    (ringM.slice (Rect.unit (s := S8x6250x64) off S1x6250x64.size hh) hs).squeeze S6250x64 squeezes_S1x6250x64_S6250x64 = slot s :=
  congrArg (fun M : Memref sig .tc .vmem S1x6250x64 .f32 => M.squeeze S6250x64 squeezes_S1x6250x64_S6250x64)
    (Memref.slice_unit_congr _ e _ _ _ _)
/-- A slice of the inbound semaphores at offset `s`, squeezed, is slot `s`'s inbound cell. -/
theorem inCell_congr {off : Fin 1 → Nat} {s : Fin 8} (e : off = cellOff s) (hh) :
    (cc0_scratch1.slice (Rect.unit (s := S8) off S1.size hh)).squeeze S_ squeezes_S1_S_ = inCell s :=
  congrArg (fun A : DmaSems sig S1 => A.squeeze S_ squeezes_S1_S_) (SemArray.slice_unit_congr _ e _ _)
/-- A slice of the outbound semaphores at offset `s`, squeezed, is slot `s`'s outbound cell. -/
theorem outCell_congr {off : Fin 1 → Nat} {s : Fin 8} (e : off = cellOff s) (hh) :
    (cc0_scratch2.slice (Rect.unit (s := S8) off S1.size hh)).squeeze S_ squeezes_S1_S_ = outCell s :=
  congrArg (fun A : DmaSems sig S1 => A.squeeze S_ squeezes_S1_S_) (SemArray.slice_unit_congr _ e _ _)

/-! ### In the loop -/

section Loop
variable (k : Fin k0_t1_loop.trips)

/-- The outbound cell waited on in trip `k` is that of slot `k % 8`. -/
@[sl_canon] theorem outCell_wait (hh) :
    (cc0_scratch2.slice (Rect.unit (s := S8) (k0_off1 k) S1.size hh)).squeeze S_ squeezes_S1_S_ = outCell (Ring.sl 8 k.val) :=
  outCell_congr (k0_off1_eq k) _
/-- The chunk of the result waited for in trip `k` is chunk `k - 8`. -/
@[sl_canon] theorem dst_wait (h : 8 ≤ k.val) (hh hs) :
    resultM.slice (Rect.unit (s := S1000000x64) (k0_off2 k) S6250x64.size hh) hs = dst (Ring.bk 160 (k.val - 8)) :=
  dst_congr ((off2_eq k h).trans (by rw [rowOff, Ring.bk_val (by have := trip_lt k; omega)])) _ _
/-- The slot whose outgoing copy trip `k` waits for is slot `k % 8`. -/
@[sl_canon] theorem slot_wait (hh hs) :
    (ringM.slice (Rect.unit (s := S8x6250x64) (k0_off3 k) S1x6250x64.size hh) hs).squeeze S6250x64 squeezes_S1x6250x64_S6250x64
      = slot (Ring.sl 8 k.val) :=
  slot_congr (k0_off3_eq k) _ _
/-- The inbound cell of the chunk trip `k` starts is that of slot `k % 8`. -/
@[sl_canon] theorem inCell_start (hh) :
    (cc0_scratch1.slice (Rect.unit (s := S8) (k0_off4 k) S1.size hh)).squeeze S_ squeezes_S1_S_ = inCell (Ring.sl 8 k.val) :=
  inCell_congr (k0_off4_eq k) _
/-- The slot the chunk trip `k` starts comes into is slot `k % 8`. -/
@[sl_canon] theorem slot_start (hh hs) :
    (ringM.slice (Rect.unit (s := S8x6250x64) (k0_off5 k) S1x6250x64.size hh) hs).squeeze S6250x64 squeezes_S1x6250x64_S6250x64
      = slot (Ring.sl 8 k.val) :=
  slot_congr (k0_off5_eq k) _ _
/-- The chunk of the table trip `k` starts is chunk `k`. -/
@[sl_canon] theorem src_start (hh hs) :
    tableM.slice (Rect.unit (s := S1000000x64) (k0_off6 k) S6250x64.size hh) hs = src (Ring.bk 160 k.val) :=
  src_congr ((k0_off6_eq k).trans (by rw [rowOff, Ring.bk_val (trip_lt k)])) _ _
/-- The inbound cell trip `k` waits on is that of chunk `k - 4`'s slot. -/
@[sl_canon] theorem inCell_turn (h : 4 ≤ k.val) (hh) :
    (cc0_scratch1.slice (Rect.unit (s := S8) (k0_off7 k) S1.size hh)).squeeze S_ squeezes_S1_S_ = inCell (Ring.sl 8 (k.val - 4)) :=
  inCell_congr (off7_eq k h) _
/-- The outbound cell trip `k` starts a copy on is that of chunk `k - 4`'s slot. -/
@[sl_canon] theorem outCell_turn (h : 4 ≤ k.val) (hh) :
    (cc0_scratch2.slice (Rect.unit (s := S8) (k0_off7 k) S1.size hh)).squeeze S_ squeezes_S1_S_ = outCell (Ring.sl 8 (k.val - 4)) :=
  outCell_congr (off7_eq k h) _
/-- The slot trip `k` turns around is chunk `k - 4`'s. -/
@[sl_canon] theorem slot_turn (h : 4 ≤ k.val) (hh hs) :
    (ringM.slice (Rect.unit (s := S8x6250x64) (k0_off8 k) S1x6250x64.size hh) hs).squeeze S6250x64 squeezes_S1x6250x64_S6250x64
      = slot (Ring.sl 8 (k.val - 4)) :=
  slot_congr (off8_eq k h) _ _
/-- The chunk of the table trip `k` turns around is chunk `k - 4`; -/
@[sl_canon] theorem src_turn (h : 4 ≤ k.val) (hh hs) :
    tableM.slice (Rect.unit (s := S1000000x64) (k0_off9 k) S6250x64.size hh) hs = src (Ring.bk 160 (k.val - 4)) :=
  src_congr ((off9_eq k h).trans (by rw [rowOff, Ring.bk_val (by have := trip_lt k; omega)])) _ _
/-- so is the chunk of the result. -/
@[sl_canon] theorem dst_turn (h : 4 ≤ k.val) (hh hs) :
    resultM.slice (Rect.unit (s := S1000000x64) (k0_off9 k) S6250x64.size hh) hs = dst (Ring.bk 160 (k.val - 4)) :=
  dst_congr ((off9_eq k h).trans (by rw [rowOff, Ring.bk_val (by have := trip_lt k; omega)])) _ _

end Loop

/-! ### After the loop

The statements after the loop name their slots, cells and rows by literals; the slot and cell equations below hold of
any literal below eight, the chunk equations of any literal row that is a multiple of 6250. -/

/-- The chunk whose first row is row `r`. -/
abbrev chunkAtRow (r : ℕ) : Fin 160 := Ring.bk 160 (r / 6250)

/-- The offsets of the chunk beginning at row `r`. -/
theorem row_eq {r : ℕ} (h : r % 6250 = 0) (h' : r < 1000000) : (![r, 0] : Fin 2 → Nat) = rowOff (chunkAtRow r) := by
  rw [rowOff, Ring.bk_val (by omega), show 6250 * (r / 6250) = r by omega]

/-- A literal inbound cell. -/
@[sl_canon] theorem inCell_at (n : ℕ) (h : n < 8) (hh) :
    (cc0_scratch1.slice (Rect.unit (s := S8) ![n] S1.size hh)).squeeze S_ squeezes_S1_S_ = inCell (Ring.sl 8 n) :=
  inCell_congr (by rw [cellOff, Ring.bk_val h]) _
/-- A literal outbound cell. -/
@[sl_canon] theorem outCell_at (n : ℕ) (h : n < 8) (hh) :
    (cc0_scratch2.slice (Rect.unit (s := S8) ![n] S1.size hh)).squeeze S_ squeezes_S1_S_ = outCell (Ring.sl 8 n) :=
  outCell_congr (by rw [cellOff, Ring.bk_val h]) _
/-- A literal slot. -/
@[sl_canon] theorem slot_at (n : ℕ) (h : n < 8) (hh hs) :
    (ringM.slice (Rect.unit (s := S8x6250x64) ![n, 0, 0] S1x6250x64.size hh) hs).squeeze S6250x64 squeezes_S1x6250x64_S6250x64
      = slot (Ring.sl 8 n) :=
  slot_congr (by rw [slotOff, Ring.bk_val h]) _ _
/-- A chunk of the table at a literal row. -/
@[sl_canon] theorem src_at (r : ℕ) (h : r % 6250 = 0) (h' : r < 1000000) (hh hs) :
    tableM.slice (Rect.unit (s := S1000000x64) ![r, 0] S6250x64.size hh) hs = src (chunkAtRow r) :=
  src_congr (row_eq h h') _ _
/-- A chunk of the result at a literal row. -/
@[sl_canon] theorem dst_at (r : ℕ) (h : r % 6250 = 0) (h' : r < 1000000) (hh hs) :
    resultM.slice (Rect.unit (s := S1000000x64) ![r, 0] S6250x64.size hh) hs = dst (chunkAtRow r) :=
  dst_congr (row_eq h h') _ _

end Cert.Proof.Relay
-- ==== Proof.Relay.Trip.lean ====
/-
  ONE TRIP OF THE LOOP. Before trip `k` each chunk `b` of the table is in one of four states:

  * `waiting` (`k ≤ b`): not read yet; the result's chunk still holds what it held at launch;
  * `inbound` (`b < k ≤ b + 4`): its copy into slot `b % 8` has been started;
  * `outbound` (`b + 4 < k ≤ b + 8`): it has come in, and its copy out of the slot has been started;
  * `done` (`b + 8 < k`): the result's chunk holds the table's words.

  A slot no chunk has entered yet (`k ≤ s`) is `free`. Trip `k` moves chunk `k` from waiting to inbound, chunk `k - 4`
  from inbound to outbound and chunk `k - 8` from outbound to done, where there are such chunks; the slot of chunk
  `k - 8` is the one chunk `k` takes.
-/
module

public import proofs.«01_k».proof.Proof.Relay.Chunks

@[expose] public section

set_option maxRecDepth 16384

noncomputable section

namespace Cert.Proof.Relay

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's algebra: the pipeline library's rounds beside the counters the kernel's transfers draw on. -/
abbrev UU (nD : Nat) (τ : Topo) : Type := Pipeline.UC sig nD τ
local notation "𝕄" => MT nD τ sig Unit (Elt F) ℕ (UU nD τ) ℕ
/-- No loop needs a variant. -/
abbrev 𝒱₀ : Variants := Variants.none

/-! ## The pieces -/

section Pieces
variable (c : Dev nD) (X : Buf (Elt F) (tableM.view.loc (c : Thread nD τ))) (G : Buf (Elt F) (resultM.view.loc (c : Thread nD τ)))

/-- Slot `s`'s inbound cell at zero. -/
abbrev inZero (s : Fin 8) : sProp 𝕄 := semVal ((c : Thread nD τ), SemLoc.dma (inCell s).sem) 0
/-- Slot `s`'s outbound cell at zero. -/
abbrev outZero (s : Fin 8) : sProp 𝕄 := semVal ((c : Thread nD τ), SemLoc.dma (outCell s).sem) 0
/-- Slot `s` held at contents `f`. -/
abbrev slotP (s : Fin 8) (f : Buf (Elt F) ((slot s).view.loc (c : Thread nD τ))) : sProp 𝕄 :=
  (slot s).view.loc (c : Thread nD τ) ↦[(slot s).view.set]{fullShare} f
/-- Chunk `b` of the table, held at the table's contents. -/
abbrev srcP (b : Fin 160) : sProp 𝕄 := (src b).view.loc (c : Thread nD τ) ↦[(src b).view.set]{fullShare} X
/-- Chunk `b` of the result, held at contents `g`. -/
abbrev dstP (b : Fin 160) (g : Buf (Elt F) ((dst b).view.loc (c : Thread nD τ))) : sProp 𝕄 :=
  (dst b).view.loc (c : Thread nD τ) ↦[(dst b).view.set]{fullShare} g

/-- Chunk `b`'s words, as a copy carries them. -/
abbrev words (b : Fin 160) : S6250x64.Idx → Elt F .f32 := ReadAs.same.apply ((src b).view.read (Elt F) X)
/-- What chunk `b` leaves in slot `s`. -/
abbrev cameIn (s : Fin 8) (b : Fin 160) (f : Buf (Elt F) ((slot s).view.loc (c : Thread nD τ))) :
    Buf (Elt F) ((slot s).view.loc (c : Thread nD τ)) :=
  (slot s).view.writes (Elt F) f [⟨Rect.whole S6250x64, words c X b⟩]
/-- What chunk `b` leaves in the result. -/
abbrev wentOut (b : Fin 160) : Buf (Elt F) ((dst b).view.loc (c : Thread nD τ)) :=
  (dst b).view.writes (Elt F) G [⟨Rect.whole S6250x64, words c X b⟩]

/-- Chunk `b` on its way into slot `s`, over contents `f`. (A chunk's copy moves 100000 units on its cell.) -/
abbrev inFlight (s : Fin 8) (b : Fin 160) (f : Buf (Elt F) ((slot s).view.loc (c : Thread nD τ))) : sProp 𝕄 :=
  Transfers.Flight countersEmb (c : Thread nD τ) (SemLoc.dma (inCell s).sem) () 100000
    iprop(slotP c s (cameIn c X s b f) ∗ srcP c X b)
/-- Chunk `b` on its way out of slot `s`. -/
abbrev outFlight (s : Fin 8) (b : Fin 160) (f : Buf (Elt F) ((slot s).view.loc (c : Thread nD τ))) : sProp 𝕄 :=
  Transfers.Flight countersEmb (c : Thread nD τ) (SemLoc.dma (outCell s).sem) () 100000
    iprop(dstP c b (wentOut c X G b) ∗ slotP c s (cameIn c X s b f))

/-- A slot nothing is moving through. -/
abbrev free (s : Fin 8) : sProp 𝕄 := iprop((∃ f, slotP c s f) ∗ inZero c s ∗ outZero c s)
/-- A chunk the loop has not reached: the table's words, and the result's place for them. -/
abbrev waiting (b : Fin 160) : sProp 𝕄 := iprop(srcP c X b ∗ dstP c b G)
/-- A chunk coming into slot `s`, the slot's outbound cell idle. -/
abbrev inbound (s : Fin 8) (b : Fin 160) : sProp 𝕄 := iprop((∃ f, inFlight c X s b f) ∗ dstP c b G ∗ outZero c s)
/-- A chunk going out of slot `s`, the slot's inbound cell idle. -/
abbrev outbound (s : Fin 8) (b : Fin 160) : sProp 𝕄 := iprop((∃ f, outFlight c X G s b f) ∗ srcP c X b ∗ inZero c s)
/-- A chunk whose words are in the result. -/
abbrev done (b : Fin 160) : sProp 𝕄 := iprop(srcP c X b ∗ dstP c b X)

/-- Reading the result's chunk is reading the result at the chunk's places; -/
theorem read_dst (b : Fin 160) (g : Buf (Elt F) (resultM.view.loc (c : Thread nD τ))) (x : S6250x64.Idx) :
    (dst b).view.read (Elt F) g x = g ((dst b).view.emb x) := rfl
/-- the words a copy carries are the table's at those same places. -/
theorem words_apply (b : Fin 160) (x : S6250x64.Idx) : words c X b x = X ((dst b).view.emb x) := rfl
/-- A chunk that has gone out is the result's chunk at the table's contents. -/
theorem dstP_wentOut (b : Fin 160) : (dstP c b (wentOut c X G b) : sProp 𝕄) = dstP c b X := by
  refine pointsTo_congr fun i hi => ?_
  rw [View.set] at hi
  obtain ⟨x, -, rfl⟩ := Finset.mem_map.mp hi
  have h := congrFun (View.read_writes_whole (dst b).view G (words c X b)) x
  exact (read_dst c b (wentOut c X G b) x).symm.trans (h.trans (words_apply c X b x))

/-- A slot a chunk has come into reads as that chunk's words, so what the run starts from the slot is the chunk's way out. -/
theorem outFlight_from_slot (s : Fin 8) (b : Fin 160) (f : Buf (Elt F) ((slot s).view.loc (c : Thread nD τ))) :
    (outFlight c X G s b f : sProp 𝕄)
      = Transfers.Flight countersEmb (c : Thread nD τ) (SemLoc.dma (outCell s).sem) () 100000
          iprop(dstP c b ((dst b).view.writes (Elt F) G
              [⟨Rect.whole S6250x64, ReadAs.same.apply ((slot s).view.read (Elt F) (cameIn c X s b f))⟩])
            ∗ slotP c s (cameIn c X s b f)) := by
  rw [View.read_writes_whole]

/-! ## The four states, by the trip -/

/-- Chunk `b` before trip `k`: four trips coming in, four going out, done after. -/
def chunkAt (k : ℕ) (b : Fin 160) : sProp 𝕄 :=
  if k ≤ b.val then waiting c X G b
  else if k ≤ b.val + 4 then inbound c X G (Ring.sl 8 b.val) b
  else if k ≤ b.val + 8 then outbound c X G (Ring.sl 8 b.val) b
  else done c X b
/-- Slot `s` before trip `k`, as far as no chunk has entered it. -/
def freeAt (k : ℕ) (s : Fin 8) : sProp 𝕄 := if k ≤ s.val then free c s else iprop(emp)

/-- A chunk the loop has not reached waits. -/
theorem chunkAt_waiting {k : ℕ} {b : Fin 160} (h : k ≤ b.val) : chunkAt c X G k b = waiting c X G b := if_pos h
/-- A chunk reached at most four trips ago is on its way in. -/
theorem chunkAt_inbound {k : ℕ} {b : Fin 160} (h : b.val < k) (h' : k ≤ b.val + 4) :
    chunkAt c X G k b = inbound c X G (Ring.sl 8 b.val) b := by
  rw [chunkAt, if_neg (by omega), if_pos h']
/-- A chunk reached five to eight trips ago is on its way out. -/
theorem chunkAt_outbound {k : ℕ} {b : Fin 160} (h : b.val + 4 < k) (h' : k ≤ b.val + 8) :
    chunkAt c X G k b = outbound c X G (Ring.sl 8 b.val) b := by
  rw [chunkAt, if_neg (by omega), if_neg (by omega), if_pos h']
/-- A chunk reached longer ago is done. -/
theorem chunkAt_done {k : ℕ} {b : Fin 160} (h : b.val + 8 < k) : chunkAt c X G k b = done c X b := by
  rw [chunkAt, if_neg (by omega), if_neg (by omega), if_neg (by omega)]
/-- A trip leaves every other chunk as it is. -/
theorem chunkAt_same {k : ℕ} {b : Fin 160} (h0 : b.val ≠ k) (h4 : b.val + 4 ≠ k) (h8 : b.val + 8 ≠ k) :
    chunkAt c X G (k + 1) b = chunkAt c X G k b :=
  if_congr (by omega) rfl (if_congr (by omega) rfl (if_congr (by omega) rfl rfl))
/-- A slot no chunk has entered is free, -/
theorem freeAt_free {k : ℕ} {s : Fin 8} (h : k ≤ s.val) : freeAt (F := F) c k s = free c s := if_pos h
/-- one some chunk has entered is accounted for with the chunk in it, -/
theorem freeAt_taken {k : ℕ} {s : Fin 8} (h : s.val < k) : freeAt (F := F) c k s = iprop(emp) := if_neg (by omega)
/-- and a trip takes no other slot than its own. -/
theorem freeAt_same {k : ℕ} {s : Fin 8} (h : s.val ≠ k) : freeAt (F := F) c (k + 1) s = freeAt c k s :=
  if_congr (by omega) rfl rfl

/-- Everything the loop moves about, before trip `k`. -/
def resAt (k : ℕ) : sProp 𝕄 :=
  iprop((∃ W, owes (c : Thread nD τ) 0 W) ∗ bigSep Finset.univ (chunkAt c X G k) ∗ bigSep Finset.univ (freeAt c k))

omit [FloatOps F] in
/-- Some members of a family change and the others stay. -/
theorem change_some {I : Type} [Fintype I] [DecidableEq I] (S : Finset I) {Φ Ψ : I → sProp 𝕄} (h : ∀ j, j ∉ S → Ψ j = Φ j) :
    bigSep Finset.univ Φ ⊢ iprop(bigSep S Φ ∗ (bigSep S Ψ -∗ bigSep Finset.univ Ψ)) := by
  have split (Θ : I → sProp 𝕄) : bigSep Finset.univ Θ = iprop(bigSep S Θ ∗ bigSep (Finset.univ \ S) Θ) :=
    bigSep_sdiff_split (Finset.subset_univ S)
  rw [split Φ, split Ψ, bigSep_congr (s := Finset.univ \ S) fun j hj => h j (Finset.mem_sdiff.mp hj).2]
  iintro ⟨HS, HR⟩
  isplitl [HS]; · iexact HS
  iintro HS'
  isplitl [HS']; · iexact HS'
  iexact HR

omit [FloatOps F] in
/-- A family over two members. -/
theorem bigSep_two {I : Type} [DecidableEq I] {a b : I} (h : a ≠ b) (Φ : I → sProp 𝕄) :
    bigSep {a, b} Φ = iprop(Φ a ∗ Φ b) := by
  rw [bigSep_insert (by simpa using h), bigSep_singleton]; rfl
omit [FloatOps F] in
/-- A family over three members. -/
theorem bigSep_three {I : Type} [DecidableEq I] {a b d : I} (h : a ≠ b) (h' : a ≠ d) (h'' : b ≠ d) (Φ : I → sProp 𝕄) :
    bigSep {a, b, d} Φ = iprop(Φ a ∗ Φ b ∗ Φ d) := by
  rw [bigSep_insert (by simp [h, h']), bigSep_two h'']; rfl

end Pieces

/-! ## The trip -/

section Trip
variable (c : Dev nD) (X : Buf (Elt F) (tableM.view.loc (c : Thread nD τ))) (G : Buf (Elt F) (resultM.view.loc (c : Thread nD τ)))
  (k : Fin k0_t1_loop.trips)

/-- Trip `k` of the kernel's loop. -/
abbrev trip : Prog (TpuEff nD τ sig (Elt F) Λ₀ .tc) Unit :=
  k0_t1_body (F := F) tableM (Memref.isWhole_whole _) resultM (Memref.isWhole_whole _) ringM (Memref.isWhole_whole _)
    cc0_scratch1 cc0_scratch2 k ()

/-- One of the first four trips: chunk `k` starts into a free slot. -/
theorem trip_first (h : ¬4 ≤ k.val) :
    iprop((∃ W, owes (c : Thread nD τ) 0 W) ∗ waiting c X G (Ring.bk 160 k.val) ∗ free c (Ring.sl 8 k.val))
      ⊢ wp frame (wpE (defs₀ (F := F)) 𝒱₀ (c : Thread nD τ) none) Set.univ (trip k) fun _ =>
        iprop((∃ W, owes (c : Thread nD τ) 0 W) ∗ inbound c X G (Ring.sl 8 k.val) (Ring.bk 160 k.val)) := by
  have c1 : ¬k0_cond1 k = 1#1 := fun e => h (by have := (cond1_iff k).1 e; omega)
  have c2 : ¬k0_cond2 k = 1#1 := fun e => h ((cond2_iff k).1 e)
  iintro ⟨⟨%W, HW⟩, ⟨Hs, Hd⟩, ⟨%f, Hf⟩, Hi, Ho⟩
  dsimp only [trip]
  sl_unfold [k0_t1_body]
  sl_exec
  sl_step
  isplitl [HW]; · iexists W; iexact HW
  isplitl [Hi]; · iexists f; iexact Hi
  isplitl [Hd]; · iexact Hd
  iexact Ho

/-- One of the next four: chunk `k` starts into a free slot, chunk `k - 4` is turned around. -/
theorem trip_next (h : 4 ≤ k.val) (h8 : ¬8 ≤ k.val) :
    iprop((∃ W, owes (c : Thread nD τ) 0 W) ∗ waiting c X G (Ring.bk 160 k.val) ∗ free c (Ring.sl 8 k.val)
        ∗ inbound c X G (Ring.sl 8 (k.val - 4)) (Ring.bk 160 (k.val - 4)))
      ⊢ wp frame (wpE (defs₀ (F := F)) 𝒱₀ (c : Thread nD τ) none) Set.univ (trip k) fun _ =>
        iprop((∃ W, owes (c : Thread nD τ) 0 W) ∗ inbound c X G (Ring.sl 8 k.val) (Ring.bk 160 k.val)
          ∗ outbound c X G (Ring.sl 8 (k.val - 4)) (Ring.bk 160 (k.val - 4))) := by
  have c1 : ¬k0_cond1 k = 1#1 := fun e => h8 ((cond1_iff k).1 e)
  have c2 : k0_cond2 k = 1#1 := (cond2_iff k).2 h
  iintro ⟨⟨%W, HW⟩, ⟨Hs, Hd⟩, ⟨⟨%f, Hf⟩, Hi, Ho⟩, ⟨%f4, HF⟩, Hd4, Ho4⟩
  dsimp only [trip]
  sl_unfold [k0_t1_body]
  sl_exec
  sl_step
  isplitl [HW]; · iexists _; iexact HW
  isplitl [Hi Hd Ho]
  · isplitl [Hi]; · iexists f; iexact Hi
    isplitl [Hd]; · iexact Hd
    iexact Ho
  isplitl [Ho4]; · iexists f4; irw [outFlight_from_slot]; iexact Ho4
  isplitl [HF_src]; · iexact HF_src
  iexact HF

/-- Any later trip: chunk `k - 8` is out, chunk `k` starts into the slot it leaves, chunk `k - 4` is turned around. -/
theorem trip_later (h : 4 ≤ k.val) (h8 : 8 ≤ k.val) :
    iprop((∃ W, owes (c : Thread nD τ) 0 W) ∗ waiting c X G (Ring.bk 160 k.val)
        ∗ inbound c X G (Ring.sl 8 (k.val - 4)) (Ring.bk 160 (k.val - 4))
        ∗ outbound c X G (Ring.sl 8 k.val) (Ring.bk 160 (k.val - 8)))
      ⊢ wp frame (wpE (defs₀ (F := F)) 𝒱₀ (c : Thread nD τ) none) Set.univ (trip k) fun _ =>
        iprop((∃ W, owes (c : Thread nD τ) 0 W) ∗ inbound c X G (Ring.sl 8 k.val) (Ring.bk 160 k.val)
          ∗ outbound c X G (Ring.sl 8 (k.val - 4)) (Ring.bk 160 (k.val - 4)) ∗ done c X (Ring.bk 160 (k.val - 8))) := by
  have c1 : k0_cond1 k = 1#1 := (cond1_iff k).2 h8
  have c2 : k0_cond2 k = 1#1 := (cond2_iff k).2 h
  iintro ⟨⟨%W, HW⟩, ⟨Hs, Hd⟩, ⟨⟨%f4, HF⟩, Hd4, Ho4⟩, ⟨%f8, HG⟩, Hs8, Hi⟩
  dsimp only [trip]
  sl_unfold [k0_t1_body]
  sl_exec
  sl_step
  isplitl [HW]; · iexists _; iexact HW
  isplitl [Hi Hd HG]
  · isplitl [Hi]; · iexists _; iexact Hi
    isplitl [Hd]; · iexact Hd
    iexact HG
  isplitl [Ho4 HF_src HF]
  · isplitl [Ho4]; · iexists f4; irw [outFlight_from_slot]; iexact Ho4
    isplitl [HF_src]; · iexact HF_src
    iexact HF
  isplitl [Hs8]; · iexact Hs8
  irw [← dstP_wentOut c X G]
  iexact HG_dst

end Trip

end Cert.Proof.Relay
-- ==== Proof.Relay.Body.lean ====
/-
  THE KERNEL'S BODY: the trips of the loop put together (each trip moves its two or three chunks and leaves the others,
  `step`), and after the loop the last four chunks turned around and the last eight waited out. From every chunk waiting
  and every slot free the body ends with every chunk done and every slot free again.
-/
module

public import proofs.«01_k».proof.Proof.Relay.Trip

@[expose] public section

set_option maxRecDepth 16384

noncomputable section

namespace Cert.Proof.Relay

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

variable (c : Dev nD) (X : Buf (Elt F) (tableM.view.loc (c : Thread nD τ))) (G : Buf (Elt F) (resultM.view.loc (c : Thread nD τ)))

/-! ## What a trip takes out of the chunks and the slots, and what it puts back -/

/-- A trip of the first four takes out chunk `k`. -/
theorem chunks_first {k : ℕ} (hk : k < 4) :
    bigSep Finset.univ (chunkAt c X G k)
      ⊢ iprop(waiting c X G (Ring.bk 160 k) ∗ (inbound c X G (Ring.sl 8 k) (Ring.bk 160 k) -∗ bigSep Finset.univ (chunkAt c X G (k + 1)))) := by
  have v0 : (Ring.bk 160 k).val = k := Ring.bk_val (by omega)
  have h := change_some {Ring.bk 160 k} (Φ := chunkAt c X G k) (Ψ := chunkAt c X G (k + 1)) fun j hj => by
    have e0 : j.val ≠ k := fun e => hj (by rw [Finset.mem_singleton]; exact Fin.ext (e.trans v0.symm))
    exact chunkAt_same c X G e0 (by omega) (by omega)
  rwa [bigSep_singleton, bigSep_singleton, chunkAt_waiting c X G (by omega), chunkAt_inbound c X G (by omega) (by omega), v0] at h

/-- A trip of the next four takes out chunks `k` and `k - 4`. -/
theorem chunks_next {k : ℕ} (h4 : 4 ≤ k) (hk : k < 8) :
    bigSep Finset.univ (chunkAt c X G k)
      ⊢ iprop((waiting c X G (Ring.bk 160 k) ∗ inbound c X G (Ring.sl 8 (k - 4)) (Ring.bk 160 (k - 4)))
        ∗ ((inbound c X G (Ring.sl 8 k) (Ring.bk 160 k) ∗ outbound c X G (Ring.sl 8 (k - 4)) (Ring.bk 160 (k - 4)))
          -∗ bigSep Finset.univ (chunkAt c X G (k + 1)))) := by
  have v0 : (Ring.bk 160 k).val = k := Ring.bk_val (by omega)
  have v4 : (Ring.bk 160 (k - 4)).val = k - 4 := Ring.bk_val (by omega)
  have n04 : Ring.bk 160 k ≠ Ring.bk 160 (k - 4) := fun e => by have := congrArg Fin.val e; omega
  have h := change_some {Ring.bk 160 k, Ring.bk 160 (k - 4)} (Φ := chunkAt c X G k) (Ψ := chunkAt c X G (k + 1)) fun j hj => by
    simp only [Finset.mem_insert, Finset.mem_singleton, not_or] at hj
    have e0 : j.val ≠ k := fun e => hj.1 (Fin.ext (e.trans v0.symm))
    have e4 : j.val + 4 ≠ k := fun e => hj.2 (Fin.ext (by omega))
    exact chunkAt_same c X G e0 e4 (by omega)
  rwa [bigSep_two n04, bigSep_two n04, chunkAt_waiting c X G (by omega), chunkAt_inbound c X G (by omega) (by omega),
    chunkAt_inbound c X G (b := Ring.bk 160 k) (by omega) (by omega), chunkAt_outbound c X G (by omega) (by omega), v0, v4] at h

/-- A later trip takes out chunks `k`, `k - 4` and `k - 8`. -/
theorem chunks_later {k : ℕ} (h8 : 8 ≤ k) (hk : k < 160) :
    bigSep Finset.univ (chunkAt c X G k)
      ⊢ iprop((waiting c X G (Ring.bk 160 k) ∗ inbound c X G (Ring.sl 8 (k - 4)) (Ring.bk 160 (k - 4))
          ∗ outbound c X G (Ring.sl 8 k) (Ring.bk 160 (k - 8)))
        ∗ ((inbound c X G (Ring.sl 8 k) (Ring.bk 160 k) ∗ outbound c X G (Ring.sl 8 (k - 4)) (Ring.bk 160 (k - 4))
            ∗ done c X (Ring.bk 160 (k - 8)))
          -∗ bigSep Finset.univ (chunkAt c X G (k + 1)))) := by
  have v0 : (Ring.bk 160 k).val = k := Ring.bk_val hk
  have v4 : (Ring.bk 160 (k - 4)).val = k - 4 := Ring.bk_val (by omega)
  have v8 : (Ring.bk 160 (k - 8)).val = k - 8 := Ring.bk_val (by omega)
  have n04 : Ring.bk 160 k ≠ Ring.bk 160 (k - 4) := fun e => by have := congrArg Fin.val e; omega
  have n08 : Ring.bk 160 k ≠ Ring.bk 160 (k - 8) := fun e => by have := congrArg Fin.val e; omega
  have n48 : Ring.bk 160 (k - 4) ≠ Ring.bk 160 (k - 8) := fun e => by have := congrArg Fin.val e; omega
  have s8 : Ring.sl 8 (k - 8) = Ring.sl 8 k := by rw [← Ring.sl_add 8 (k - 8), Nat.sub_add_cancel h8]
  have h := change_some {Ring.bk 160 k, Ring.bk 160 (k - 4), Ring.bk 160 (k - 8)} (Φ := chunkAt c X G k) (Ψ := chunkAt c X G (k + 1))
    fun j hj => by
      simp only [Finset.mem_insert, Finset.mem_singleton, not_or] at hj
      have e0 : j.val ≠ k := fun e => hj.1 (Fin.ext (e.trans v0.symm))
      have e4 : j.val + 4 ≠ k := fun e => hj.2.1 (Fin.ext (by omega))
      have e8 : j.val + 8 ≠ k := fun e => hj.2.2 (Fin.ext (by omega))
      exact chunkAt_same c X G e0 e4 e8
  rwa [bigSep_three n04 n08 n48, bigSep_three n04 n08 n48, chunkAt_waiting c X G (by omega),
    chunkAt_inbound c X G (by omega) (by omega), chunkAt_outbound c X G (b := Ring.bk 160 (k - 8)) (by omega) (by omega),
    chunkAt_inbound c X G (b := Ring.bk 160 k) (by omega) (by omega), chunkAt_outbound c X G (by omega) (by omega),
    chunkAt_done c X G (by omega), v0, v4, v8, s8] at h

/-- A trip of the first eight takes slot `k` for good. -/
theorem slots_first {k : ℕ} (hk : k < 8) :
    bigSep Finset.univ (freeAt (F := F) c k) ⊢ iprop(free c (Ring.sl 8 k) ∗ bigSep Finset.univ (freeAt (F := F) c (k + 1))) := by
  have v0 : (Ring.sl 8 k).val = k := Ring.bk_val hk
  have h := change_some {Ring.sl 8 k} (Φ := freeAt (F := F) c k) (Ψ := freeAt (F := F) c (k + 1)) fun j hj =>
    freeAt_same c fun e => hj (by rw [Finset.mem_singleton]; exact Fin.ext (e.trans v0.symm))
  rw [bigSep_singleton, bigSep_singleton, freeAt_free c (by omega), freeAt_taken c (by omega)] at h
  refine h.trans ?_
  iintro ⟨Hf, HR⟩
  isplitl [Hf]; · iexact Hf
  iapply HR
  iempintro

/-- A later trip takes no free slot. -/
theorem slots_later {k : ℕ} (h8 : 8 ≤ k) : bigSep Finset.univ (freeAt (F := F) c (k + 1)) = bigSep Finset.univ (freeAt (F := F) c k) :=
  bigSep_congr fun s _ => freeAt_same c (by have := s.isLt; omega)

/-! ## The loop -/

/-- A trip turns what the loop holds before it into what it holds before the next. -/
theorem step (k : Fin k0_t1_loop.trips) :
    resAt c X G k.val ⊢ wp frame (wpE (defs₀ (F := F)) 𝒱₀ (c : Thread nD τ) none) Set.univ (trip k) fun _ => resAt c X G (k.val + 1) := by
  have lt := trip_lt k
  unfold resAt
  iintro ⟨HW, HC, HF⟩
  by_cases h4 : 4 ≤ k.val
  · by_cases h8 : 8 ≤ k.val
    · icases (chunks_later c X G h8 lt) $$ HC with ⟨⟨H0, H4, H8⟩, HC⟩
      iapply (wp_wand_r Idealize.ShloMosaic.frame (wpE (defs₀ (F := F)) 𝒱₀ (c : Thread nD τ) none) Set.univ)
      isplitl [HW H0 H4 H8]
      · iapply (trip_later c X G k h4 h8)
        isplitl [HW]; · iexact HW
        isplitl [H0]; · iexact H0
        isplitl [H4]; · iexact H4
        iexact H8
      iintro %_ ⟨HW, H⟩
      isplitl [HW]; · iexact HW
      isplitl [HC H]; · iapply HC; iexact H
      irw [slots_later c h8]
      iexact HF
    · icases (chunks_next c X G h4 (by omega)) $$ HC with ⟨⟨H0, H4⟩, HC⟩
      icases (slots_first c (by omega)) $$ HF with ⟨Hf, HF⟩
      iapply (wp_wand_r Idealize.ShloMosaic.frame (wpE (defs₀ (F := F)) 𝒱₀ (c : Thread nD τ) none) Set.univ)
      isplitl [HW H0 H4 Hf]
      · iapply (trip_next c X G k h4 h8)
        isplitl [HW]; · iexact HW
        isplitl [H0]; · iexact H0
        isplitl [Hf]; · iexact Hf
        iexact H4
      iintro %_ ⟨HW, H⟩
      isplitl [HW]; · iexact HW
      isplitl [HC H]; · iapply HC; iexact H
      iexact HF
  · icases (chunks_first c X G (by omega)) $$ HC with ⟨H0, HC⟩
    icases (slots_first c (by omega)) $$ HF with ⟨Hf, HF⟩
    iapply (wp_wand_r Idealize.ShloMosaic.frame (wpE (defs₀ (F := F)) 𝒱₀ (c : Thread nD τ) none) Set.univ)
    isplitl [HW H0 Hf]
    · iapply (trip_first c X G k h4)
      isplitl [HW]; · iexact HW
      isplitl [H0]; · iexact H0
      iexact Hf
    iintro %_ ⟨HW, H⟩
    isplitl [HW]; · iexact HW
    isplitl [HC H]; · iapply HC; iexact H
    iexact HF

/-! ## After the loop -/

/-- The last eight chunks. -/
def lastEight : Finset (Fin 160) :=
  {chunkAtRow 950000, chunkAtRow 956250, chunkAtRow 962500, chunkAtRow 968750,
    chunkAtRow 975000, chunkAtRow 981250, chunkAtRow 987500, chunkAtRow 993750}

/-- A family over the last eight chunks, chunk by chunk. -/
theorem lastEight_sep (Φ : Fin 160 → sProp 𝕄) :
    bigSep lastEight Φ
      = iprop(Φ (chunkAtRow 950000) ∗ Φ (chunkAtRow 956250) ∗ Φ (chunkAtRow 962500) ∗ Φ (chunkAtRow 968750)
        ∗ Φ (chunkAtRow 975000) ∗ Φ (chunkAtRow 981250) ∗ Φ (chunkAtRow 987500) ∗ Φ (chunkAtRow 993750)) := by
  rw [lastEight, bigSep_insert (by decide), bigSep_insert (by decide), bigSep_insert (by decide), bigSep_insert (by decide),
    bigSep_insert (by decide), bigSep_insert (by decide), bigSep_insert (by decide), bigSep_singleton]
  rfl

/-- Every chunk before the last eight is done when the loop ends. -/
theorem before_lastEight {b : Fin 160} (h : b ∉ lastEight) : done c X b = chunkAt c X G 160 b := by
  have lt : b.val < 152 := by
    revert h; revert b; decide
  exact (chunkAt_done c X G (by omega)).symm

/-- When the loop ends, a chunk of the last eight in one of the first four slots is on its way out; -/
theorem end_outbound (r n : ℕ) (h : r / 6250 = 152 + n) (hn : n < 4) :
    chunkAt c X G 160 (chunkAtRow r) = outbound c X G (Ring.sl 8 n) (chunkAtRow r) := by
  have v : (chunkAtRow r).val = r / 6250 := Ring.bk_val (by omega)
  rw [chunkAt_outbound c X G (by omega) (by omega), v, h,
    show Ring.sl 8 (152 + n) = Ring.sl 8 n from Fin.ext (show (152 + n) % 8 = n % 8 by omega)]
/-- in one of the other four it is on its way in. -/
theorem end_inbound (r n : ℕ) (h : r / 6250 = 152 + n) (hn : 4 ≤ n) (hn' : n < 8) :
    chunkAt c X G 160 (chunkAtRow r) = inbound c X G (Ring.sl 8 n) (chunkAtRow r) := by
  have v : (chunkAtRow r).val = r / 6250 := Ring.bk_val (by omega)
  rw [chunkAt_inbound c X G (by omega) (by omega), v, h,
    show Ring.sl 8 (152 + n) = Ring.sl 8 n from Fin.ext (show (152 + n) % 8 = n % 8 by omega)]

/-- What the loop leaves: four chunks on their way out, four on their way in, every other done. -/
theorem chunks_end :
    bigSep Finset.univ (chunkAt c X G 160)
      ⊢ iprop((outbound c X G (Ring.sl 8 0) (chunkAtRow 950000) ∗ outbound c X G (Ring.sl 8 1) (chunkAtRow 956250)
          ∗ outbound c X G (Ring.sl 8 2) (chunkAtRow 962500) ∗ outbound c X G (Ring.sl 8 3) (chunkAtRow 968750)
          ∗ inbound c X G (Ring.sl 8 4) (chunkAtRow 975000) ∗ inbound c X G (Ring.sl 8 5) (chunkAtRow 981250)
          ∗ inbound c X G (Ring.sl 8 6) (chunkAtRow 987500) ∗ inbound c X G (Ring.sl 8 7) (chunkAtRow 993750))
        ∗ (bigSep lastEight (done c X) -∗ bigSep Finset.univ (done c X))) := by
  have h := change_some lastEight (Φ := chunkAt c X G 160) (Ψ := done c X) fun _ hj => before_lastEight c X G hj
  rwa [lastEight_sep (chunkAt c X G 160),
    end_outbound c X G 950000 0 (by decide) (by decide), end_outbound c X G 956250 1 (by decide) (by decide),
    end_outbound c X G 962500 2 (by decide) (by decide), end_outbound c X G 968750 3 (by decide) (by decide),
    end_inbound c X G 975000 4 (by decide) (by decide) (by decide), end_inbound c X G 981250 5 (by decide) (by decide) (by decide),
    end_inbound c X G 987500 6 (by decide) (by decide) (by decide),
    end_inbound c X G 993750 7 (by decide) (by decide) (by decide)] at h

/-- A family over the slots, slot by slot. -/
theorem slots_sep (Φ : Fin 8 → sProp 𝕄) :
    bigSep Finset.univ Φ
      = iprop(Φ (Ring.sl 8 0) ∗ Φ (Ring.sl 8 1) ∗ Φ (Ring.sl 8 2) ∗ Φ (Ring.sl 8 3)
        ∗ Φ (Ring.sl 8 4) ∗ Φ (Ring.sl 8 5) ∗ Φ (Ring.sl 8 6) ∗ Φ (Ring.sl 8 7)) := by
  rw [show (Finset.univ : Finset (Fin 8)) = {Ring.sl 8 0, Ring.sl 8 1, Ring.sl 8 2, Ring.sl 8 3, Ring.sl 8 4, Ring.sl 8 5,
      Ring.sl 8 6, Ring.sl 8 7} by decide,
    bigSep_insert (by decide), bigSep_insert (by decide), bigSep_insert (by decide), bigSep_insert (by decide),
    bigSep_insert (by decide), bigSep_insert (by decide), bigSep_insert (by decide), bigSep_singleton]
  rfl

/-! ## The body -/

/-- A chunk waited out is done. -/
theorem done_waited (b : Fin 160) : iprop(srcP c X b ∗ dstP c b (wentOut c X G b)) ⊢ done c X b := by
  rw [dstP_wentOut]
/-- So is a chunk waited out after it was read back from its slot. -/
theorem done_turned (s : Fin 8) (b : Fin 160) (f : Buf (Elt F) ((slot s).view.loc (c : Thread nD τ))) :
    iprop(srcP c X b ∗ dstP c b ((dst b).view.writes (Elt F) G
        [⟨Rect.whole S6250x64, ReadAs.same.apply ((slot s).view.read (Elt F) (cameIn c X s b f))⟩]))
      ⊢ done c X b := by
  rw [View.read_writes_whole]
  exact done_waited c X G b
/-- A slot whose two cells stand at zero is free. -/
theorem free_intro (s : Fin 8) (f : Buf (Elt F) ((slot s).view.loc (c : Thread nD τ))) :
    iprop(slotP c s f ∗ inZero c s ∗ outZero c s) ⊢ free c s := by
  iintro ⟨Hf, Hi, Ho⟩
  isplitl [Hf]; · iexists f; iexact Hf
  isplitl [Hi]; · iexact Hi
  iexact Ho

/-- The kernel's body, from its operands. -/
abbrev body : Prog (TpuEff nD τ sig (Elt F) Λ₀ .tc) PUnit :=
  cc0__relay_body (F := F) tableM (Memref.isWhole_whole _) resultM (Memref.isWhole_whole _) ringM (Memref.isWhole_whole _)
    cc0_scratch1 cc0_scratch2

/-- From every chunk waiting and every slot free, the body ends with every chunk done and every slot free. -/
theorem body_run :
    iprop((∃ W, owes (c : Thread nD τ) 0 W) ∗ bigSep Finset.univ (waiting c X G) ∗ bigSep Finset.univ (free (F := F) c))
      ⊢ wp frame (wpE (defs₀ (F := F)) 𝒱₀ (c : Thread nD τ) none) Set.univ body fun _ =>
        iprop((∃ W, owes (c : Thread nD τ) 0 W) ∗ bigSep Finset.univ (done c X) ∗ bigSep Finset.univ (free (F := F) c)) := by
  iintro ⟨HW, HC, HF⟩
  dsimp only [body]
  sl_unfold [cc0__relay_body]
  sl_exec
  sl_for (fun k _ => resAt c X G k) $$ [HW HC HF]
  case region => exact fun k _ => step c X G k
  · unfold resAt
    isplitl [HW]; · iexact HW
    irw [bigSep_congr (Φ := chunkAt c X G 0) fun b _ => chunkAt_waiting c X G b.val.zero_le,
      bigSep_congr (Φ := freeAt (F := F) c 0) fun s _ => freeAt_free c s.val.zero_le]
    isplitl [HC]; · iexact HC
    iexact HF
  iintro %_
  irw [show Scf.trips k0_t1_loop.lb k0_t1_loop.ub k0_t1_loop.st = 160 from trips_eq]
  unfold resAt
  iintro ⟨⟨%W, HW⟩, HC, HF⟩
  iclear HF
  icases (chunks_end c X G) $$ HC with
    ⟨⟨⟨⟨%f0, H0⟩, Hs0, Hi0⟩, ⟨⟨%f1, H1⟩, Hs1, Hi1⟩, ⟨⟨%f2, H2⟩, Hs2, Hi2⟩, ⟨⟨%f3, H3⟩, Hs3, Hi3⟩,
      ⟨⟨%f4, H4⟩, Hd4, Ho4⟩, ⟨⟨%f5, H5⟩, Hd5, Ho5⟩, ⟨⟨%f6, H6⟩, Hd6, Ho6⟩, ⟨%f7, H7⟩, Hd7, Ho7⟩, HC⟩
  sl_exec
  sl_step
  isplitl [HW]; · iexists _; iexact HW
  isplitl [HC Hs0 H0_dst Hs1 H1_dst Hs2 H2_dst Hs3 H3_dst H4_src Hd4 H5_src Hd5 H6_src Hd6 H7_src Hd7]
  · iapply HC
    irw [lastEight_sep]
    isplitl [Hs0 H0_dst]
    · iapply (done_waited c X G _)
      isplitl [Hs0]; · iexact Hs0
      iexact H0_dst
    isplitl [Hs1 H1_dst]
    · iapply (done_waited c X G _)
      isplitl [Hs1]; · iexact Hs1
      iexact H1_dst
    isplitl [Hs2 H2_dst]
    · iapply (done_waited c X G _)
      isplitl [Hs2]; · iexact Hs2
      iexact H2_dst
    isplitl [Hs3 H3_dst]
    · iapply (done_waited c X G _)
      isplitl [Hs3]; · iexact Hs3
      iexact H3_dst
    isplitl [H4_src Hd4]
    · iapply (done_turned c X G (Ring.sl 8 4) _ f4)
      isplitl [H4_src]; · iexact H4_src
      iexact Hd4
    isplitl [H5_src Hd5]
    · iapply (done_turned c X G (Ring.sl 8 5) _ f5)
      isplitl [H5_src]; · iexact H5_src
      iexact Hd5
    isplitl [H6_src Hd6]
    · iapply (done_turned c X G (Ring.sl 8 6) _ f6)
      isplitl [H6_src]; · iexact H6_src
      iexact Hd6
    iapply (done_turned c X G (Ring.sl 8 7) _ f7)
    isplitl [H7_src]; · iexact H7_src
    iexact Hd7
  irw [slots_sep]
  isplitl [H0_src Hi0 H0]
  · iapply (free_intro c (Ring.sl 8 0) _)
    isplitl [H0_src]; · iexact H0_src
    isplitl [Hi0]; · iexact Hi0
    iexact H0
  isplitl [H1_src Hi1 H1]
  · iapply (free_intro c (Ring.sl 8 1) _)
    isplitl [H1_src]; · iexact H1_src
    isplitl [Hi1]; · iexact Hi1
    iexact H1
  isplitl [H2_src Hi2 H2]
  · iapply (free_intro c (Ring.sl 8 2) _)
    isplitl [H2_src]; · iexact H2_src
    isplitl [Hi2]; · iexact Hi2
    iexact H2
  isplitl [H3_src Hi3 H3]
  · iapply (free_intro c (Ring.sl 8 3) _)
    isplitl [H3_src]; · iexact H3_src
    isplitl [Hi3]; · iexact Hi3
    iexact H3
  isplitl [H4_dst H4 Ho4]
  · iapply (free_intro c (Ring.sl 8 4) _)
    isplitl [H4_dst]; · iexact H4_dst
    isplitl [H4]; · iexact H4
    iexact Ho4
  isplitl [H5_dst H5 Ho5]
  · iapply (free_intro c (Ring.sl 8 5) _)
    isplitl [H5_dst]; · iexact H5_dst
    isplitl [H5]; · iexact H5
    iexact Ho5
  isplitl [H6_dst H6 Ho6]
  · iapply (free_intro c (Ring.sl 8 6) _)
    isplitl [H6_dst]; · iexact H6_dst
    isplitl [H6]; · iexact H6
    iexact Ho6
  iapply (free_intro c (Ring.sl 8 7) _)
  isplitl [H7_dst]; · iexact H7_dst
  isplitl [H7]; · iexact H7
  iexact Ho7

end Cert.Proof.Relay
-- ==== Proof.Relay.Launch.lean ====
/-
  THE LAUNCH: the two arrays in the chunks they are moved by, the VMEM buffer in its eight slots, the kernel's sixteen
  cells, and the run of @main — it ends with the argument as it was, the result at the argument's contents and every
  semaphore at zero.
-/
module

public import proofs.«01_k».proof.Proof.Relay.Body

@[expose] public section

set_option maxRecDepth 16384

noncomputable section

namespace Cert.Proof.Relay

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UU nD τ) ℕ

/-! ## The element sets of the chunks and the slots -/

/-- The elements of chunk `b`, in either array. -/
abbrev rowSet (b : Fin 160) : Finset S1000000x64.Idx := (rowRect b).set
/-- The elements of slot `s`. -/
abbrev slotSet (s : Fin 8) : Finset S8x6250x64.Idx := (slotRect s).set

/-- No two chunks share an element; -/
theorem rowSet_disjoint : ∀ b b' : Fin 160, b ≠ b' → Disjoint (rowSet b) (rowSet b') :=
  Ring.lead_disjoint (s := S1000000x64) 0 6250 rowOff S6250x64.size rowOff_inb (fun _ => rfl) rfl
/-- the chunks cover the array. -/
theorem rowSet_cover : (Finset.univ : Finset (Fin 160)).biUnion rowSet = Finset.univ :=
  Ring.lead_cover (s := S1000000x64) 0 6250 rowOff S6250x64.size rowOff_inb (fun _ => rfl)
    (fun _ a ha => by fin_cases a; · exact absurd rfl ha
                      rfl)
    rfl (by decide) (by decide)
/-- No two slots share an element; -/
theorem slotSet_disjoint : ∀ s s' : Fin 8, s ≠ s' → Disjoint (slotSet s) (slotSet s') :=
  Ring.lead_disjoint (s := S8x6250x64) 0 1 slotOff S1x6250x64.size slotOff_inb (fun s => (Nat.one_mul s.val).symm) rfl
/-- the slots cover the buffer. -/
theorem slotSet_cover : (Finset.univ : Finset (Fin 8)).biUnion slotSet = Finset.univ :=
  Ring.lead_cover (s := S8x6250x64) 0 1 slotOff S1x6250x64.size slotOff_inb (fun s => (Nat.one_mul s.val).symm)
    (fun _ a ha => by fin_cases a; · exact absurd rfl ha
                      · rfl
                      rfl)
    rfl (by decide) (by decide)

/-- A chunk of the table has its elements; -/
theorem src_set (b : Fin 160) : (src b).view.set = rowSet b := View.set_slice_whole _ _
/-- so does a chunk of the result; -/
theorem dst_set (b : Fin 160) : (dst b).view.set = rowSet b := View.set_slice_whole _ _
/-- and a slot has the buffer's. -/
theorem slot_set (s : Fin 8) : (slot s).view.set = slotSet s := (View.set_reshape _ _).trans (View.set_slice_whole _ _)

variable (c : Dev nD)

/-! ## Whole buffers and their pieces -/

/-- The table whole is its chunks. -/
theorem table_eq (X : Buf (Elt F) (tableM.view.loc (c : Thread nD τ))) :
    (((c : Thread nD τ).loc main_arg0) ↦{fullShare} X : sProp 𝕄) = bigSep Finset.univ (srcP c X) := by
  rw [Ring.pointsTo_blocks (ℓ := (c : Thread nD τ).loc main_arg0) rowSet rowSet_disjoint rowSet_cover]
  exact bigSep_congr fun b _ => by rw [← src_set]; rfl
/-- The result whole is its chunks. -/
theorem result_eq (G : Buf (Elt F) (resultM.view.loc (c : Thread nD τ))) :
    (((c : Thread nD τ).loc main_v0) ↦{fullShare} G : sProp 𝕄) = bigSep Finset.univ (fun b => dstP c b G) := by
  rw [Ring.pointsTo_blocks (ℓ := (c : Thread nD τ).loc main_v0) rowSet rowSet_disjoint rowSet_cover]
  exact bigSep_congr fun b _ => by rw [← dst_set]; rfl
/-- A slot's piece of the buffer. -/
theorem slotP_eq (s : Fin 8) (f) : slotP c s f = (((c : Thread nD τ).loc cc0_scratch0) ↦[slotSet s]{fullShare} f : sProp 𝕄) :=
  congrArg (fun S => (_ ↦[S]{fullShare} f : sProp 𝕄)) (slot_set s)
/-- Elements of the buffer at contents `f` are a slot at something, -/
theorem slot_give (s : Fin 8) (f : Buf (Elt F) ((c : Thread nD τ).loc cc0_scratch0)) :
    (((c : Thread nD τ).loc cc0_scratch0) ↦[slotSet s]{fullShare} f : sProp 𝕄) ⊢ iprop(∃ f, slotP c s f) := by
  iintro H; iexists f; iapply (BIBase.Entails.of_eq (slotP_eq c s f).symm); iexact H
/-- and a slot at something is elements of the buffer. -/
theorem slot_take (s : Fin 8) :
    (iprop(∃ f, slotP c s f) : sProp 𝕄)
      ⊢ iprop(∃ f : Buf (Elt F) ((c : Thread nD τ).loc cc0_scratch0), ((c : Thread nD τ).loc cc0_scratch0) ↦[slotSet s]{fullShare} f) := by
  iintro ⟨%f, H⟩; iexists f; irw [← slotP_eq]; iexact H
/-- The buffer whole gives its slots, -/
theorem ring_split :
    iprop(∃ f : Buf (Elt F) ((c : Thread nD τ).loc cc0_scratch0), ((c : Thread nD τ).loc cc0_scratch0) ↦{fullShare} f)
      ⊢ (bigSep Finset.univ (fun s : Fin 8 => iprop(∃ f, slotP c s f)) : sProp 𝕄) := by
  have piece (f : Buf (Elt F) ((c : Thread nD τ).loc cc0_scratch0)) :
      (bigSep Finset.univ fun s : Fin 8 => (((c : Thread nD τ).loc cc0_scratch0) ↦[slotSet s]{fullShare} f : sProp 𝕄))
        ⊢ bigSep Finset.univ (fun s : Fin 8 => iprop(∃ f, slotP c s f)) :=
    bigSep_mono fun s _ => slot_give c s f
  rw [show (fun f : Buf (Elt F) ((c : Thread nD τ).loc cc0_scratch0) =>
      (((c : Thread nD τ).loc cc0_scratch0) ↦{fullShare} f : sProp 𝕄)) = fun f => _ from
    funext (Ring.pointsTo_blocks (ℓ := (c : Thread nD τ).loc cc0_scratch0) slotSet slotSet_disjoint slotSet_cover)]
  iintro ⟨%f, H⟩
  iapply (piece f)
  iexact H
/-- and the slots join to it. -/
theorem ring_join (f₀ : Buf (Elt F) ((c : Thread nD τ).loc cc0_scratch0)) :
    (bigSep Finset.univ (fun s : Fin 8 => iprop(∃ f, slotP c s f)) : sProp 𝕄)
      ⊢ iprop(∃ f : Buf (Elt F) ((c : Thread nD τ).loc cc0_scratch0), ((c : Thread nD τ).loc cc0_scratch0) ↦{fullShare} f) := by
  refine BIBase.Entails.trans ?_ (Ring.pointsTo_blocks_join_exists (ℓ := (c : Thread nD τ).loc cc0_scratch0) slotSet slotSet_disjoint slotSet_cover f₀)
  exact bigSep_mono fun s _ => slot_take c s

/-! ## The kernel's own semaphores: each slot's two cells -/

/-- Each slot's inbound cell, then each slot's outbound cell. -/
abbrev osem : Fin 8 ⊕ Fin 8 → SemLoc sig := Sum.elim (fun s => .dma (inCell s).sem) fun s => .dma (outCell s).sem
/-- They are distinct, and no staging buffer's. -/
theorem ownSemFacts : Pipeline.OwnSemFacts (cfg0.spec) osem := by decide

/-- The kernel's own cells at zero are the slots' inbound cells and the slots' outbound cells at zero. -/
theorem ownSems_eq :
    (Pipeline.ownSems0 (Ix := Unit) (Name := ℕ) (U := UU nD τ) (Lvl := ℕ) (Val := Elt F) (τ := τ) osem c : sProp 𝕄)
      = iprop(bigSep Finset.univ (inZero (F := F) c) ∗ bigSep Finset.univ (outZero (F := F) c)) := by
  have hu : (Finset.univ : Finset (Fin 8 ⊕ Fin 8))
      = Finset.univ.map Function.Embedding.inl ∪ Finset.univ.map Function.Embedding.inr := by decide
  have hd : Disjoint ((Finset.univ : Finset (Fin 8)).map (Function.Embedding.inl (β := Fin 8)))
      ((Finset.univ : Finset (Fin 8)).map (Function.Embedding.inr (α := Fin 8))) := by decide
  unfold Pipeline.ownSems0
  rw [hu, bigSep_union hd, bigSep_map, bigSep_map]
  rfl

/-- A family of pairs is the pair of the families. -/
theorem pairs {I : Type} [Fintype I] [DecidableEq I] (Φ Ψ : I → sProp 𝕄) :
    (bigSep Finset.univ fun i => iprop(Φ i ∗ Ψ i)) = iprop(bigSep Finset.univ Φ ∗ bigSep Finset.univ Ψ) :=
  bigSep_sep Finset.univ Φ Ψ

/-- The slots free are the slots at something and their cells at zero. -/
theorem free_eq :
    (bigSep Finset.univ (free (F := F) c) : sProp 𝕄)
      = iprop(bigSep Finset.univ (fun s : Fin 8 => iprop(∃ f, slotP (F := F) c s f))
        ∗ bigSep Finset.univ (inZero (F := F) c) ∗ bigSep Finset.univ (outZero (F := F) c)) := by
  unfold free
  rw [pairs, pairs]

/-- The chunks waiting are the two arrays whole, each at its own contents. -/
theorem waiting_eq (X : Buf (Elt F) (tableM.view.loc (c : Thread nD τ))) (G : Buf (Elt F) (resultM.view.loc (c : Thread nD τ))) :
    (bigSep Finset.univ (waiting c X G) : sProp 𝕄)
      = iprop((((c : Thread nD τ).loc main_arg0) ↦{fullShare} X) ∗ (((c : Thread nD τ).loc main_v0) ↦{fullShare} G)) := by
  rw [table_eq, result_eq]
  exact pairs _ _
/-- The chunks done are the two arrays whole, both at the table's. -/
theorem done_eq (X : Buf (Elt F) (tableM.view.loc (c : Thread nD τ))) :
    (bigSep Finset.univ (done c X) : sProp 𝕄)
      = iprop((((c : Thread nD τ).loc main_arg0) ↦{fullShare} X) ∗ (((c : Thread nD τ).loc main_v0) ↦{fullShare} X)) := by
  rw [table_eq, result_eq c X]
  exact pairs _ _

/-! ## The launch's data -/

variable (m : (ℓ : Loc nD τ sig) → Buf (Elt F) ℓ) (g : Dev nD → PrngReg)

/-- A buffer's contents at launch. -/
abbrev V (c : Dev nD) (b : Ref sig .tc) : Buf (Elt F) ((c : Thread nD τ).loc b) := m ((c : Thread nD τ).loc b)
/-- The table's contents, -/
abbrev tableAt (c : Dev nD) : Buf (Elt F) (tableM.view.loc (c : Thread nD τ)) := m ((c : Thread nD τ).loc main_arg0)
/-- and the result's at launch. -/
abbrev resultAt (c : Dev nD) : Buf (Elt F) (resultM.view.loc (c : Thread nD τ)) := m ((c : Thread nD τ).loc main_v0)
/-- A buffer's contents at the end: the launch's, but for the result, which is the table. -/
def Y (c : Dev nD) : (b : Ref sig .tc) → Buf (Elt F) ((c : Thread nD τ).loc b) := Function.update (V m c) main_v0 (tableAt m c)

/-- The argument ends as it was; -/
theorem Y_arg (c : Dev nD) : Y m c main_arg0 = m ((c : Thread nD τ).loc main_arg0) := Function.update_of_ne (by decide) _ _
/-- the result ends at the argument's contents. -/
theorem Y_result (c : Dev nD) : Y m c main_v0 = tableAt m c := Function.update_self _ _ _

/-- The buffers the body is handed: the two arrays. -/
def arrays : Finset (Ref sig .tc) := {main_arg0, main_v0}
/-- No window stages either. -/
theorem arrays_sub : arrays ⊆ Pipeline.restRefs sig (cfg0.spec) := by decide
/-- The arrays at contents `W`. -/
theorem routed_eq (c : Dev nD) (W : (b : Ref sig .tc) → Buf (Elt F) ((c : Thread nD τ).loc b)) :
    (Pipeline.routed arrays c W : sProp 𝕄)
      = iprop((((c : Thread nD τ).loc main_arg0) ↦{fullShare} W main_arg0) ∗ (((c : Thread nD τ).loc main_v0) ↦{fullShare} W main_v0)) := by
  unfold Pipeline.routed
  rw [BI.bigSep_eq_bigSepL_of_eq [main_arg0, main_v0] (by decide) (by decide)]; rfl

/-- What the body is given. -/
def before (c : Dev nD) : sProp 𝕄 :=
  iprop(bigSep Finset.univ (waiting c (tableAt m c) (resultAt m c)) ∗ bigSep Finset.univ (free (F := F) c) ∗ ∃ r, prngReg c r)
/-- What the body gives back. -/
def after (c : Dev nD) : sProp 𝕄 :=
  iprop(bigSep Finset.univ (done c (tableAt m c)) ∗ bigSep Finset.univ (free (F := F) c) ∗ ∃ r, prngReg c r)

/-- The pallas_call has no window: only what the body is given and gives back. -/
def dats (_ : Fin 1) (c : Dev nD) : Dat τ (Elt F) Unit ℕ (UU nD τ) ℕ cfg0 c where
  A w := V m c (Pipeline.arrRef (cfg0.spec) w)
  after w _ := w.elim0
  Φ t := if t.val = 0 then before m c else after m c
  q _ := fullShare
  owed _ := 0

/-- The pallas_call's one point runs the kernel's body. -/
theorem row (t : Fin cfg0.N) : defs₀ (F := F) .tc cfg0.body (cfg0.bodyArgs t (cfg0.slots t)) = body := by
  unfold defs₀; rw [Defs.onTc_tc]

set_option backward.isDefEq.respectTransparency.types false in
/-- The body takes what it is given to what it gives back. -/
theorem body_obligation (c : Dev nD) : BodyObligation (dats (F := F) m 0 c) (defs₀ (F := F)) 𝒱₀ () Set.univ := fun t => by
  obtain rfl := fin_N0 t
  have no_windows (Θ : Fin cfg0.W → sProp 𝕄) : bigSep Finset.univ Θ = iprop(emp) := rfl
  rw [no_windows, no_windows, row]
  rw [show (dats (F := F) m 0 c).Φ (t0_0 : Fin cfg0.N).castSucc = before m c from rfl,
    show (dats (F := F) m 0 c).Φ (t0_0 : Fin cfg0.N).succ = after m c from rfl]
  unfold Dat.owesAt Pipeline.owesWithin before after
  rw [show (dats (F := F) m 0 c).owed (t0_0 : Fin cfg0.N).castSucc = 0 from rfl,
    show (dats (F := F) m 0 c).owed (t0_0 : Fin cfg0.N).succ = 0 from rfl]
  iintro ⟨⟨HC, HF, Hg⟩, ⟨%W, -, HW⟩, -⟩
  iapply (wp_wand_r Idealize.ShloMosaic.frame (wpE (defs₀ (F := F)) 𝒱₀ (c : Thread nD τ) none) Set.univ)
  isplitl [HC HF HW]
  · iapply (body_run c (tableAt m c) (resultAt m c))
    isplitl [HW]; · iexists W; iexact HW
    isplitl [HC]; · iexact HC
    iexact HF
  iintro %_ ⟨⟨%W', HW⟩, HC, HF⟩
  isplitl [HC HF Hg]
  · isplitl [HC]; · iexact HC
    isplitl [HF]; · iexact HF
    iexact Hg
  isplitl [HW]
  · iexists W'; isplitr; · ipureintro; exact fun _ _ => Or.inl trivial
    iexact HW
  iempintro

/-! ## The run -/

/-- @main is the pallas_call alone. -/
theorem hmain : Pipeline.HMain (Ix := Unit) (Name := ℕ) (U := UU nD τ) (Lvl := ℕ) cfgs 0 defs₀ 𝒱₀ m (main (F := F)) (V m) :=
  Pipeline.hmain_region cfgs 0 defs₀ 𝒱₀ m main fun c => (main_chain c).trans rfl

/-- What the launch hands over is what the body is given. -/
theorem enter (c : Dev nD) : Pipeline.Ends (cfg0.spec) osem arrays c (V m c) ⊢ before m c := by
  unfold Pipeline.Ends before
  rw [routed_eq, ownSems_eq, scopedRest0_eq, waiting_eq, free_eq]
  iintro ⟨HA, HS, HR, Hg⟩
  isplitl [HA]; · iexact HA
  isplitl [HS HR]
  · isplitl [HR]; · iapply (ring_split c); iexact HR
    iexact HS
  iexact Hg
/-- What the body gives back is what the launch wants back. -/
theorem leave (c : Dev nD) : after m c ⊢ Pipeline.Ends (cfg0.spec) osem arrays c (Y m c) := by
  unfold Pipeline.Ends after
  rw [routed_eq, ownSems_eq, scopedRest0_eq, done_eq, free_eq, Y_arg, Y_result]
  iintro ⟨HA, ⟨HR, HS⟩, Hg⟩
  isplitl [HA]; · iexact HA
  isplitl [HS]; · iexact HS
  isplitl [HR]; · iapply (ring_join c (m ((c : Thread nD τ).loc cc0_scratch0))); iexact HR
  iexact Hg

set_option backward.isDefEq.respectTransparency.types false in
/-- From any memory with zero semaphores, every weakly fair execution of @main terminates, with the argument unchanged, the result at the
    argument's contents and every semaphore at zero. -/
theorem run : θ_run defs (onTc (τ := τ) (main (F := F))) ⟨m, fun _ => 0, g⟩ (fun r =>
    (∀ c : Dev nD, r.2.mem ((c.tc : Thread nD τ).loc main_v0) = tableAt m c
      ∧ r.2.mem ((c.tc : Thread nD τ).loc main_arg0) = m ((c.tc : Thread nD τ).loc main_arg0))
    ∧ r.2.sem = fun _ => 0) :=
  Pipeline.θ_run_frame_routed cfgs (dats m) (0 : Fin 1) launch0 ownSemFacts defs₀ 𝒱₀ m g main
    (hbody := fun c => (body_obligation m c).loose) (hshare := fun c => (dats m 0 c).share_full fun _ => rfl)
    (howed := fun _ _ => rfl) (V := V m) (hmain := hmain m) (hA := fun _ _ => rfl)
    (R := arrays) (hR := arrays_sub) (Y := Y m) (hin := enter m) (hout := leave m)
    (Q' := _) (hQ' := fun _ h => ⟨fun c =>
      ⟨((h.1 c).2.1 main_v0 (by decide)).trans (Y_result m c), ((h.1 c).2.1 main_arg0 (by decide)).trans (Y_arg m c)⟩, h.2⟩)

end Cert.Proof.Relay
-- ==== Proof.lean ====
/-
  The five claims: the kernel as printed and read over the extended reals ends with its argument unchanged and every
  semaphore at zero; so does the reference; reading the kernel over the extended reals rewrites nothing; and the
  kernel's result is the reference's — the argument itself, every chunk of it moved through the VMEM buffer and out.
  The run behind them is Proof/Relay/Launch.lean's `run`.
-/
module

public import proofs.«01_k».proof.Defs
public import proofs.«01_k».proof.Proof.Gen.Kernel
public import proofs.«01_k».proof.Proof.Gen.ReferenceIdeal
public import proofs.«01_k».proof.Proof.Relay.Launch
public import Idealize.ShloMosaic.Lib.Quiescent
public import Idealize.ShloMosaic.Lib.StableHlo.Run

@[expose] public section

set_option maxRecDepth 65536

noncomputable section

namespace Cert.Proof

open Idealize.ShloMosaic Idealize.ShloMosaic.TcCoe Idealize.SL.Sem

/-! ## The kernel -/

/-- The kernel as printed leaves its argument unchanged and every semaphore at zero. (The two printings of the kernel are one
    program, whatever its floats are.) -/
theorem frame_kernel : Cert.quiescent_Kernel := fun m g _ =>
  (θ_run Cert.KernelIdeal.defs _ _).mono (fun _ h => ⟨fun c => (h.1 c).2, h.2⟩) (Relay.run (F := Bits) m g)

/-- Read over the extended reals it does too. -/
theorem frame_ideal : Cert.quiescent_KernelIdeal := fun m g _ =>
  (θ_run Cert.KernelIdeal.defs _ _).mono (fun _ h => ⟨fun c => (h.1 c).2, h.2⟩) (Relay.run (F := Ideal) m g)

/-! ## The reference -/

/-- The reference returns its argument: it has no operation, and its memory ends as it began. -/
theorem reference_run (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => ∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)) :=
  (θ_run Cert.ReferenceIdeal.defs _ _).mono (fun _ h c => h c Cert.ReferenceIdeal.main_arg0)
    (StableHlo.run_seq (by decide) (by decide) _ _ (fun _ => []) (fun _ => rfl) (fun _ => trivial) m g)

/-- The reference leaves its argument unchanged, and has no semaphore. -/
theorem frame_reference : Cert.quiescent_ReferenceIdeal := fun m g _ =>
  (θ_run Cert.ReferenceIdeal.defs _ _).mono (fun r h => ⟨h, sem_eq_zero_of_no_sems (by decide) r.2⟩) (reference_run m g)

/-! ## The claims -/

/-- Reading the kernel over the extended reals rewrites no operation of it. -/
theorem preserves : Cert.preserves_Kernel_KernelIdeal := trivial

/-- The kernel's whole result is the reference's: the argument. -/
theorem algebraic : Cert.algebraic_KernelIdeal_ReferenceIdeal := fun m g m' g' _ same =>
  ⟨fun c => Relay.tableAt m c,
    (θ_run Cert.KernelIdeal.defs _ _).mono (fun _ h => h.1) (Relay.run (F := Ideal) m g),
    (θ_run Cert.ReferenceIdeal.defs _ _).mono (fun _ h c => ⟨(h c).trans (same c), h c⟩) (reference_run m' g')⟩

/-- Everything claimed. -/
theorem claim : Cert.Claim :=
  ⟨Cert.Kernel.Gen.facts, Cert.KernelIdeal.Gen.facts, Cert.ReferenceIdeal.Gen.facts,
    frame_kernel, frame_ideal, frame_reference, preserves, algebraic⟩

end Cert.Proof

end
